-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024x96 : Shape := ⟨3, ![32, 1024, 96]⟩
abbrev S32x4096x96 : Shape := ⟨3, ![32, 4096, 96]⟩
abbrev S32x1024 : Shape := ⟨2, ![32, 1024]⟩
abbrev S384x96 : Shape := ⟨2, ![384, 96]⟩
abbrev S96 : Shape := ⟨1, ![96]⟩
abbrev S96x96 : Shape := ⟨2, ![96, 96]⟩
abbrev S193x96 : Shape := ⟨2, ![193, 96]⟩
abbrev S96x1 : Shape := ⟨2, ![96, 1]⟩
abbrev S1 : Shape := ⟨1, ![1]⟩
abbrev S32x96x1024 : Shape := ⟨3, ![32, 96, 1024]⟩
abbrev S32x96x4096 : Shape := ⟨3, ![32, 96, 4096]⟩
abbrev S32x1x1024 : Shape := ⟨3, ![32, 1, 1024]⟩
abbrev S1x96 : Shape := ⟨2, ![1, 96]⟩
abbrev S1x1 : Shape := ⟨2, ![1, 1]⟩
abbrev S1x96x1024 : Shape := ⟨3, ![1, 96, 1024]⟩
abbrev S1x96x4096 : Shape := ⟨3, ![1, 96, 4096]⟩
abbrev S1x1x1024 : Shape := ⟨3, ![1, 1, 1024]⟩
abbrev S96x1024 : Shape := ⟨2, ![96, 1024]⟩
abbrev S1024x96 : Shape := ⟨2, ![1024, 96]⟩
abbrev S96x4096 : Shape := ⟨2, ![96, 4096]⟩
abbrev S4096x96 : Shape := ⟨2, ![4096, 96]⟩
abbrev S32x2x32x2x96 : Shape := ⟨5, ![32, 2, 32, 2, 96]⟩
abbrev S32x1x32x1x96 : Shape := ⟨5, ![32, 1, 32, 1, 96]⟩
abbrev S32x32x96 : Shape := ⟨3, ![32, 32, 96]⟩
abbrev S1024 : Shape := ⟨1, ![1024]⟩
abbrev S1024x1 : Shape := ⟨2, ![1024, 1]⟩
abbrev S1x1x128 : Shape := ⟨3, ![1, 1, 128]⟩
abbrev S128 : Shape := ⟨1, ![128]⟩
abbrev S1x128 : Shape := ⟨2, ![1, 128]⟩
abbrev S1024x128 : Shape := ⟨2, ![1024, 128]⟩

abbrev nBuf : Space → Nat
  | .hbm => 21
  | .vmem => 16
  | .smem => 0
  | _ => 0

abbrev bufTy : (tb : Table) → Fin (tcTables nBuf tb) → BufTy
  | .hbm, ⟨0, _⟩ => ⟨S32x1024x96, .f32⟩
  | .hbm, ⟨1, _⟩ => ⟨S32x4096x96, .f32⟩
  | .hbm, ⟨2, _⟩ => ⟨S32x1024, .f32⟩
  | .hbm, ⟨3, _⟩ => ⟨S384x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S193x96, .f32⟩
  | .hbm, ⟨8, _⟩ => ⟨S96, .f32⟩
  | .hbm, ⟨9, _⟩ => ⟨S96x1, .f32⟩
  | .hbm, ⟨10, _⟩ => ⟨S1, .f32⟩
  | .hbm, ⟨11, _⟩ => ⟨S32x96x1024, .f32⟩
  | .hbm, ⟨12, _⟩ => ⟨S32x96x4096, .f32⟩
  | .hbm, ⟨13, _⟩ => ⟨S32x1x1024, .f32⟩
  | .hbm, ⟨14, _⟩ => ⟨S1x96, .f32⟩
  | .hbm, ⟨15, _⟩ => ⟨S1x96, .f32⟩
  | .hbm, ⟨16, _⟩ => ⟨S1x96, .f32⟩
  | .hbm, ⟨17, _⟩ => ⟨S1x96, .f32⟩
  | .hbm, ⟨18, _⟩ => ⟨S1x1, .f32⟩
  | .hbm, ⟨19, _⟩ => ⟨S32x96x1024, .f32⟩
  | .hbm, ⟨20, _⟩ => ⟨S32x1024x96, .f32⟩
  | .local _ .vmem, ⟨0, _⟩ => ⟨S1x96x1024, .f32⟩
  | .local _ .vmem, ⟨1, _⟩ => ⟨S1x96x1024, .f32⟩
  | .local _ .vmem, ⟨2, _⟩ => ⟨S1x96x4096, .f32⟩
  | .local _ .vmem, ⟨3, _⟩ => ⟨S1x96x4096, .f32⟩
  | .local _ .vmem, ⟨4, _⟩ => ⟨S1x1x1024, .f32⟩
  | .local _ .vmem, ⟨5, _⟩ => ⟨S1x1x1024, .f32⟩
  | .local _ .vmem, ⟨6, _⟩ => ⟨S384x96, .f32⟩
  | .local _ .vmem, ⟨7, _⟩ => ⟨S1x96, .f32⟩
  | .local _ .vmem, ⟨8, _⟩ => ⟨S96x96, .f32⟩
  | .local _ .vmem, ⟨9, _⟩ => ⟨S1x96, .f32⟩
  | .local _ .vmem, ⟨10, _⟩ => ⟨S193x96, .f32⟩
  | .local _ .vmem, ⟨11, _⟩ => ⟨S1x96, .f32⟩
  | .local _ .vmem, ⟨12, _⟩ => ⟨S1x96, .f32⟩
  | .local _ .vmem, ⟨13, _⟩ => ⟨S1x1, .f32⟩
  | .local _ .vmem, ⟨14, _⟩ => ⟨S1x96x1024, .f32⟩
  | .local _ .vmem, ⟨15, _⟩ => ⟨S1x96x1024, .f32⟩
  | _, _ => ⟨S32x1024x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![32, 1], ![false, false]⟩

def k0_off1 (i : grid0.Coords) : Fin 3 → Nat :=
  let c0_23 : Index := 0#32
  let c0_24 : Index := 0#32
  let arg1 : BitVec 32 := BitVec.ofNat 32 (i 1).val
  let c1024_i32 : BitVec 32 := 1024#32
  let v50 : BitVec 32 := Scalar.muli arg1 c1024_i32
  let v51 : Index := Scalar.indexCast v50
  ![0, 0, v51.toNat]
@[reducible] def k0_t1_loop : Scf.Loop 32 :=
  let c0_i32 : BitVec 32 := 0#32
  let c8_i32 : BitVec 32 := 8#32
  let v89 : BitVec 32 := Scalar.addi c0_i32 c8_i32
  let c1_i32 : BitVec 32 := 1#32
  ⟨c0_i32, v89, c1_i32⟩
def k0_off2 (k0_t1 : Fin k0_t1_loop.trips) : Fin 3 → Nat :=
  let c0_47 : Index := 0#32
  let c0_48 : Index := 0#32
  let c0_i32 : BitVec 32 := 0#32
  let c1_i32 : BitVec 32 := 1#32
  let arg14 : BitVec 32 := Scf.iv c0_i32 c1_i32 k0_t1
  let c128_i32 : BitVec 32 := 128#32
  let v104 : BitVec 32 := Scalar.muli arg14 c128_i32
  let v105 : Index := Scalar.indexCast v104
  ![0, 0, v105.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S384x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S193x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x96x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S32x1024x96 : Shape := ⟨3, ![32, 1024, 96]⟩
abbrev S32x4096x96 : Shape := ⟨3, ![32, 4096, 96]⟩
abbrev S32x1024 : Shape := ⟨2, ![32, 1024]⟩
abbrev S384x96 : Shape := ⟨2, ![384, 96]⟩
abbrev S96 : Shape := ⟨1, ![96]⟩
abbrev S96x96 : Shape := ⟨2, ![96, 96]⟩
abbrev S193x96 : Shape := ⟨2, ![193, 96]⟩
abbrev S96x1 : Shape := ⟨2, ![96, 1]⟩
abbrev S1 : Shape := ⟨1, ![1]⟩
abbrev S32x32x2x32x2x96 : Shape := ⟨6, ![32, 32, 2, 32, 2, 96]⟩
abbrev S32x32x32x2x2x96 : Shape := ⟨6, ![32, 32, 32, 2, 2, 96]⟩
abbrev S32x1024x384 : Shape := ⟨3, ![32, 1024, 384]⟩
abbrev S1x1x96 : Shape := ⟨3, ![1, 1, 96]⟩
abbrev S_ : Shape := ⟨0, ![]⟩
abbrev S32x1024x1 : Shape := ⟨3, ![32, 1024, 1]⟩
abbrev S32x1024x193 : Shape := ⟨3, ![32, 1024, 193]⟩
abbrev S1x1x1 : Shape := ⟨3, ![1, 1, 1]⟩
abbrev S32x154 : Shape := ⟨2, ![32, 154]⟩
abbrev S32 : Shape := ⟨1, ![32]⟩
abbrev S32x1 : Shape := ⟨2, ![32, 1]⟩
abbrev S32x154x1 : Shape := ⟨3, ![32, 154, 1]⟩
abbrev S32x154x2 : Shape := ⟨3, ![32, 154, 2]⟩

abbrev nBuf : Space → Nat
  | .hbm => 91
  | .vmem => 0
  | .smem => 0
  | _ => 0

abbrev bufTy : (tb : Table) → Fin (tcTables nBuf tb) → BufTy
  | .hbm, ⟨0, _⟩ => ⟨S32x1024x96, .f32⟩
  | .hbm, ⟨1, _⟩ => ⟨S32x4096x96, .f32⟩
  | .hbm, ⟨2, _⟩ => ⟨S32x1024, .f32⟩
  | .hbm, ⟨3, _⟩ => ⟨S384x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S193x96, .f32⟩
  | .hbm, ⟨8, _⟩ => ⟨S96, .f32⟩
  | .hbm, ⟨9, _⟩ => ⟨S96x1, .f32⟩
  | .hbm, ⟨10, _⟩ => ⟨S1, .f32⟩
  | .hbm, ⟨11, _⟩ => ⟨S32x32x2x32x2x96, .f32⟩
  | .hbm, ⟨12, _⟩ => ⟨S32x32x32x2x2x96, .f32⟩
  | .hbm, ⟨13, _⟩ => ⟨S32x1024x384, .f32⟩
  | .hbm, ⟨14, _⟩ => ⟨S32x1024x96, .f32⟩
  | .hbm, ⟨15, _⟩ => ⟨S1x1x96, .f32⟩
  | .hbm, ⟨16, _⟩ => ⟨S32x1024x96, .f32⟩
  | .hbm, ⟨17, _⟩ => ⟨S32x1024x96, .f32⟩
  | .hbm, ⟨18, _⟩ => ⟨S_, .f32⟩
  | .hbm, ⟨19, _⟩ => ⟨S32x1024x96, .f32⟩
  | .hbm, ⟨20, _⟩ => ⟨S32x1024x96, .f32⟩
  | .hbm, ⟨21, _⟩ => ⟨S32x1024x96, .f32⟩
  | .hbm, ⟨22, _⟩ => ⟨S_, .f32⟩
  | .hbm, ⟨23, _⟩ => ⟨S32x1024x96, .f32⟩
  | .hbm, ⟨24, _⟩ => ⟨S32x1024x96, .f32⟩
  | .hbm, ⟨25, _⟩ => ⟨S32x1024x96, .f32⟩
  | .hbm, ⟨26, _⟩ => ⟨S32x1024x96, .f32⟩
  | .hbm, ⟨27, _⟩ => ⟨S32x1024x96, .f32⟩
  | .hbm, ⟨28, _⟩ => ⟨S1x1x96, .f32⟩
  | .hbm, ⟨29, _⟩ => ⟨S32x1024x96, .f32⟩
  | .hbm, ⟨30, _⟩ => ⟨S32x1024x96, .f32⟩
  | .hbm, ⟨31, _⟩ => ⟨S32x1024x1, .f32⟩
  | .hbm, ⟨32, _⟩ => ⟨S32x1024x193, .f32⟩
  | .hbm, ⟨33, _⟩ => ⟨S32x1024x96, .f32⟩
  | .hbm, ⟨34, _⟩ => ⟨S1x1x96, .f32⟩
  | .hbm, ⟨35, _⟩ => ⟨S32x1024x96, .f32⟩
  | .hbm, ⟨36, _⟩ => ⟨S32x1024x96, .f32⟩
  | .hbm, ⟨37, _⟩ => ⟨S32x1024x96, .f32⟩
  | .hbm, ⟨38, _⟩ => ⟨S32x1024x96, .f32⟩
  | .hbm, ⟨39, _⟩ => ⟨S_, .f32⟩
  | .hbm, ⟨40, _⟩ => ⟨S32x1024x96, .f32⟩
  | .hbm, ⟨41, _⟩ => ⟨S32x1024x96, .f32⟩
  | .hbm, ⟨42, _⟩ => ⟨S_, .f32⟩
  | .hbm, ⟨43, _⟩ => ⟨S32x1024x96, .f32⟩
  | .hbm, ⟨44, _⟩ => ⟨S32x1024x96, .f32⟩
  | .hbm, ⟨45, _⟩ => ⟨S32x1024x96, .f32⟩
  | .hbm, ⟨46, _⟩ => ⟨S32x1024x1, .f32⟩
  | .hbm, ⟨47, _⟩ => ⟨S1x1x1, .f32⟩
  | .hbm, ⟨48, _⟩ => ⟨S32x1024x1, .f32⟩
  | .hbm, ⟨49, _⟩ => ⟨S32x1024x1, .f32⟩
  | .hbm, ⟨50, _⟩ => ⟨S32x1024x1, .f32⟩
  | .hbm, ⟨51, _⟩ => ⟨S32x1024x1, .f32⟩
  | .hbm, ⟨52, _⟩ => ⟨S_, .f32⟩
  | .hbm, ⟨53, _⟩ => ⟨S32x1024x1, .f32⟩
  | .hbm, ⟨54, _⟩ => ⟨S32x1024x1, .f32⟩
  | .hbm, ⟨55, _⟩ => ⟨S_, .f32⟩
  | .hbm, ⟨56, _⟩ => ⟨S32x1024x1, .f32⟩
  | .hbm, ⟨57, _⟩ => ⟨S32x1024x1, .f32⟩
  | .hbm, ⟨58, _⟩ => ⟨S32x154, .f32⟩
  | .hbm, ⟨59, _⟩ => ⟨S32x154, .i32⟩
  | .hbm, ⟨60, _⟩ => ⟨S32, .i32⟩
  | .hbm, ⟨61, _⟩ => ⟨S32x1, .i32⟩
  | .hbm, ⟨62, _⟩ => ⟨S_, .f32⟩
  | .hbm, ⟨63, _⟩ => ⟨S32x1024, .f32⟩
  | .hbm, ⟨64, _⟩ => ⟨S_, .i32⟩
  | .hbm, ⟨65, _⟩ => ⟨S32x1, .i32⟩
  | .hbm, ⟨66, _⟩ => ⟨S32x1, .i1⟩
  | .hbm, ⟨67, _⟩ => ⟨S_, .i32⟩
  | .hbm, ⟨68, _⟩ => ⟨S32x1, .i32⟩
  | .hbm, ⟨69, _⟩ => ⟨S32x1, .i32⟩
  | .hbm, ⟨70, _⟩ => ⟨S32x1, .i32⟩
  | .hbm, ⟨71, _⟩ => ⟨S_, .i32⟩
  | .hbm, ⟨72, _⟩ => ⟨S32x154, .i32⟩
  | .hbm, ⟨73, _⟩ => ⟨S32x154, .i1⟩
  | .hbm, ⟨74, _⟩ => ⟨S_, .i32⟩
  | .hbm, ⟨75, _⟩ => ⟨S32x154, .i32⟩
  | .hbm, ⟨76, _⟩ => ⟨S32x154, .i32⟩
  | .hbm, ⟨77, _⟩ => ⟨S32x154, .i32⟩
  | .hbm, ⟨78, _⟩ => ⟨S32x154, .i32⟩
  | .hbm, ⟨79, _⟩ => ⟨S32x154x1, .i32⟩
  | .hbm, ⟨80, _⟩ => ⟨S32x154x1, .i32⟩
  | .hbm, ⟨81, _⟩ => ⟨S32x154x2, .i32⟩
  | .hbm, ⟨82, _⟩ => ⟨S_, .f32⟩
  | .hbm, ⟨83, _⟩ => ⟨S32x154, .f32⟩
  | .hbm, ⟨84, _⟩ => ⟨S32x1024, .f32⟩
  | .hbm, ⟨85, _⟩ => ⟨S32x1024x1, .f32⟩
  | .hbm, ⟨86, _⟩ => ⟨S32x1024x1, .f32⟩
  | .hbm, ⟨87, _⟩ => ⟨S32x1024x96, .f32⟩
  | .hbm, ⟨88, _⟩ => ⟨S32x1024x96, .f32⟩
  | .hbm, ⟨89, _⟩ => ⟨S32x1024x96, .f32⟩
  | .hbm, ⟨90, _⟩ => ⟨S32x1024x96, .f32⟩
  | _, _ => ⟨S32x1024x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_1 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_values : Ref sig .tc := ⟨.hbm, 58, rfl⟩
abbrev main_indices : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_c : Ref sig .tc := ⟨.hbm, 64, rfl⟩
abbrev main_v38 : Ref sig .tc := ⟨.hbm, 65, rfl⟩
abbrev main_v39 : Ref sig .tc := ⟨.hbm, 66, rfl⟩
abbrev main_c_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_5 : Ref sig .tc := ⟨.hbm, 71, rfl⟩
abbrev main_v43 : Ref sig .tc := ⟨.hbm, 72, rfl⟩
abbrev main_v44 : Ref sig .tc := ⟨.hbm, 73, rfl⟩
abbrev main_c_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Proof.Spec.lean ====
module

public import Idealize.ShloMosaic.Lib.Pointwise

/-!
# The mathematics of the refinement

One batch row holds 1024 tokens of 96 channels, 4096 high-resolution tokens of 96 channels (a 64 × 64 image) and one
score per token. Everything below is a function of one batch row and of the weights, over the extended reals.
-/

@[expose] public section

noncomputable section

namespace Cert.Refine

open Idealize.ShloMosaic

/-- Token `n` sits at row `n / 32`, column `n % 32` of the 32 × 32 token grid. Its patch is the 2 × 2 square of the
64 × 64 image there, 96 channels each. Entry `k` of the patch lies in the image at this position (row-major). -/
def patchRow (n : Fin 1024) (k : Fin 384) : Fin 4096 :=
  ⟨n.val / 32 * 128 + k.val / 192 * 64 + n.val % 32 * 2 + k.val / 96 % 2, by omega⟩

/-- The channel of entry `k` of a patch. -/
def patchCol (k : Fin 384) : Fin 96 := ⟨k.val % 96, by omega⟩

/-- The first linear layer on the patch of token `n`. -/
def pre (hr : Fin 4096 → Fin 96 → EReal) (w1 : Fin 384 → Fin 96 → EReal) (b1 : Fin 96 → EReal)
    (n : Fin 1024) (d : Fin 96) : EReal :=
  ∑ k : Fin 384, hr (patchRow n k) (patchCol k) * w1 k d + b1 d

/-- The exact GELU, with the programs' float words for one half and for the square root of one half. -/
def gelu (x : EReal) : EReal :=
  Ideal.ofBits .f32 0x3F000000#32 * x * (1 + Ideal.erf (x * Ideal.ofBits .f32 0x3F3504F3#32))

/-- The second linear layer: the refined token. -/
def refined (p : Fin 1024 → Fin 96 → EReal) (w2 : Fin 96 → Fin 96 → EReal) (b2 : Fin 96 → EReal)
    (n : Fin 1024) (d : Fin 96) : EReal :=
  ∑ k : Fin 96, gelu (p n k) * w2 k d + b2 d

/-- The first layer of the gate: a linear layer on the base token, the refined token and the score, laid end to end. -/
def gateIn (base ref : Fin 1024 → Fin 96 → EReal) (s : Fin 1024 → EReal) (wg1 : Fin 193 → Fin 96 → EReal)
    (bg1 : Fin 96 → EReal) (n : Fin 1024) (d : Fin 96) : EReal :=
  (∑ k : Fin 96, base n k * wg1 ⟨k.val, by omega⟩ d + ∑ k : Fin 96, ref n k * wg1 ⟨96 + k.val, by omega⟩ d
    + s n * wg1 ⟨192, by omega⟩ d) + bg1 d

/-- The gate: SiLU of its first layer, one more linear layer, the logistic function. -/
def gate (g : Fin 1024 → Fin 96 → EReal) (wg2 : Fin 96 → EReal) (bg2 : EReal) (n : Fin 1024) : EReal :=
  Ideal.logistic (∑ k : Fin 96, g n k * Ideal.logistic (g n k) * wg2 k + bg2)

/-- Token `j` comes before token `n` in the order of falling scores, equal scores in the order of the tokens. -/
def Beats (s : Fin 1024 → EReal) (j n : Fin 1024) : Prop := s n < s j ∨ (s j = s n ∧ j.val < n.val)

open Classical in
/-- How many tokens come before token `n`. -/
def rank (s : Fin 1024 → EReal) (n : Fin 1024) : ℕ := (Finset.univ.filter fun j => Beats s j n).card

/-- One for the first 154 tokens in the order of falling scores, zero for the others. -/
def mask (s : Fin 1024 → EReal) (n : Fin 1024) : EReal := if rank s n < 154 then 1 else 0

/-- The blend of a base token with its refined token by a weight. -/
def blend (base ref : Fin 1024 → Fin 96 → EReal) (w : Fin 1024 → EReal) (n : Fin 1024) (d : Fin 96) : EReal :=
  base n d + w n * (ref n d - base n d)

/-- The whole computation on one batch row. -/
def out (base : Fin 1024 → Fin 96 → EReal) (hr : Fin 4096 → Fin 96 → EReal) (s : Fin 1024 → EReal)
    (w1 : Fin 384 → Fin 96 → EReal) (b1 : Fin 96 → EReal) (w2 : Fin 96 → Fin 96 → EReal) (b2 : Fin 96 → EReal)
    (wg1 : Fin 193 → Fin 96 → EReal) (bg1 : Fin 96 → EReal) (wg2 : Fin 96 → EReal) (bg2 : EReal)
    (n : Fin 1024) (d : Fin 96) : EReal :=
  blend base (refined (pre hr w1 b1) w2 b2)
    (fun n => mask s n * gate (gateIn base (refined (pre hr w1 b1) w2 b2) s wg1 bg1) wg2 bg2 n) n d

/-- A sum over the 384 entries of a patch is the sum over its four tokens of the sum over the channels. -/
theorem sum_patch (f : Fin 384 → EReal) :
    ∑ k : Fin 384, f k = ∑ t : Fin 96, f ⟨t.val, by omega⟩ + ∑ t : Fin 96, f ⟨96 + t.val, by omega⟩
      + ∑ t : Fin 96, f ⟨192 + t.val, by omega⟩ + ∑ t : Fin 96, f ⟨288 + t.val, by omega⟩ := by
  rw [Fin.sum_univ_tiles 4 96 rfl f, Fin.sum_univ_four]
  congr 1

/-- A sum over the 193 entries of the gate's input is the sum over its three parts. -/
theorem sum_gate (f : Fin 193 → EReal) :
    ∑ k : Fin 193, f k = ∑ t : Fin 96, f ⟨t.val, by omega⟩ + ∑ t : Fin 96, f ⟨96 + t.val, by omega⟩
      + f ⟨192, by omega⟩ := by
  rw [Fin.sum_univ_castSucc]
  congr 1
  exact Fin.sum_univ_add (a := 96) (b := 96) fun k => f k.castSucc

/-- A sum of ones over the tokens with a property is their number. -/
theorem sum_ite_one {ι : Type} [Fintype ι] (p : ι → Prop) [DecidablePred p] :
    ∑ j : ι, (if p j then (1 : EReal) else 0) = (((Finset.univ.filter p).card : ℕ) : EReal) := by
  rw [Finset.sum_ite, Finset.sum_const_zero, add_zero, Finset.sum_const]
  simp

/-- The float word 0x431A0000 is 154. -/
theorem word_154 : Ideal.ofBits .f32 0x431A0000#32 = ((154 : ℕ) : EReal) := by
  have : Ideal.ofBits .f32 0x431A0000#32 = ((154 : ℝ) : EReal) := by
    simp [Ideal.ofBits, Ideal.ieee, -EReal.coe_mul]
    norm_num
  rw [this]; rfl

/-- A bit widened to a word and converted to a float is one or zero. -/
theorem bit_float (b : Bool) :
    (FloatOps.sitofp .f32 (BitVec.setWidth 32 (BitVec.ofBool b)) : Ideal .f32) = (if b = true then (1 : EReal) else 0) := by
  show (((BitVec.setWidth 32 (BitVec.ofBool b)).toInt : ℝ) : EReal) = _
  cases b <;> simp

end Cert.Refine

end
-- ==== Proof.Block.lean ====
module

public import proofs.«01_k».proof.Proof.Spec
public import proofs.«01_k».proof.Proof.Gen.KernelIdeal.Frame
public import Idealize.ShloMosaic.Lib.Pipeline.ValueKit
public import Idealize.ShloMosaic.Lib.Pointwise

/-!
# What one grid point of the kernel computes

One grid point handles one batch row. The pieces of the kernel's body are read at an index, over arbitrary blocks.
-/

@[expose] public section

set_option maxRecDepth 16384

noncomputable section

namespace Cert.Refine

open Idealize.ShloMosaic Idealize.ShloMosaic.TcCoe Idealize.SL.Sem Idealize.ShloMosaic.Tactic
open Cert.KernelIdeal Cert.KernelIdeal.Gen

/-- The block of base tokens, transposed. -/
theorem base_at (v : Vec Ideal S1x96x1024 .f32) (n : Fin 1024) (d : Fin 96) :
    k0_pay4 v (ix2 n d) = v (ix3 0 d n) := by
  pointwise [k0_pay4]

/-- The four products of 96 channels, one per token of the patch, added to the bias, are the first linear layer. -/
theorem pre_at (v : Vec Ideal S1x96x4096 .f32) (b1 : Vec Ideal S1x96 .f32) (w1 : Vec Ideal S384x96 .f32)
    (n : Fin 1024) (d : Fin 96) :
    k0_pay5 v b1 (View.ld w1 (Rect.unit ![0, 0] ![96, 96] inb_S384x96_S96x96_0_0))
        (View.ld w1 (Rect.unit ![96, 0] ![96, 96] inb_S384x96_S96x96_96_0))
        (View.ld w1 (Rect.unit ![192, 0] ![96, 96] inb_S384x96_S96x96_192_0))
        (View.ld w1 (Rect.unit ![288, 0] ![96, 96] inb_S384x96_S96x96_288_0)) (ix2 n d)
      = pre (fun l d => v (ix3 0 d l)) (fun k d => w1 (ix2 k d)) (fun d => b1 (ix2 0 d)) n d := by
  unfold pre
  rw [sum_patch, add_comm (Finset.sum _ _ + _ + _ + _)]
  have hv : ∀ (a a' : Fin 96) (l l' : Fin 4096), a.val = a'.val → l.val = l'.val → v (ix3 0 a l) = v (ix3 0 a' l') :=
    fun a a' l l' ha hl => by rw [Fin.ext ha, Fin.ext hl]
  pointwise [k0_pay5, patchRow, patchCol]
  simp only [← add_assoc]
  refine congrArg₂ (· + ·) (congrArg₂ (· + ·) (congrArg₂ (· + ·) (congrArg (_ + ·) ?_) ?_) ?_) ?_ <;>
    exact Finset.sum_congr rfl fun k _ => congrArg (· * _) (hv _ _ _ _ (by simp <;> omega) (by simp <;> omega))

/-- The hidden layer and the second linear layer. -/
theorem refined_at (p : FVec Ideal S1024x96 .f32) (q : FVec Ideal S1024x96 .f32) (w2 : Vec Ideal S96x96 .f32) (b2 : Vec Ideal S1x96 .f32)
    (hq : ∀ n k, q (ix2 n k) = p (ix2 n k) * Ideal.ofBits .f32 0x3F000000#32)
    (n : Fin 1024) (d : Fin 96) :
    k0_pay7 p q w2 b2 (ix2 n d)
      = refined (fun n k => p (ix2 n k)) (fun k d => w2 (ix2 k d)) (fun d => b2 (ix2 0 d)) n d := by
  unfold refined gelu
  pointwise [k0_pay7]
  refine congrArg (· + _) (Finset.sum_congr rfl fun k _ => ?_)
  rw [hq, mul_comm (p _)]
  rfl

/-- Half of the first linear layer. -/
theorem half_at (v3 v7 v12 v20 v26 v32) (n : Fin 1024) (d : Fin 96) :
    k0_pay6 (F := Ideal) v3 v7 v12 v20 v26 v32 (ix2 n d)
      = k0_pay5 v3 v7 v12 v20 v26 v32 (ix2 n d) * Ideal.ofBits .f32 0x3F000000#32 := by
  pointwise [k0_pay6]

/-- The scores of the block as a column. -/
theorem score_at (v : Vec Ideal S1x1x1024 .f32) (n : Fin 1024) (z : Fin 1) : k0_pay8 v (ix2 n z) = v (ix3 0 0 n) := by
  pointwise [k0_pay8]

/-- The gate's first layer and its SiLU. -/
theorem silu_at (v2 v34 v36 : FVec Ideal S1024x96 .f32) (v43 : Vec Ideal S96x96 .f32) (v45 : Vec Ideal S1x96 .f32)
    (v52 : Vec Ideal S1x1x1024 .f32) (wg1 : Vec Ideal S193x96 .f32) (bg1 : Vec Ideal S1x96 .f32)
    (g : Fin 1024 → Fin 96 → EReal)
    (hg : g = gateIn (fun n k => v2 (ix2 n k)) (fun n k => k0_pay7 v34 v36 v43 v45 (ix2 n k)) (fun n => v52 (ix3 0 0 n))
      (fun k d => wg1 (ix2 k d)) (fun d => bg1 (ix2 0 d)))
    (n : Fin 1024) (d : Fin 96) :
    k0_pay9 v2 v34 v36 v43 v45 v52 (View.ld wg1 (Rect.unit ![0, 0] ![96, 96] inb_S193x96_S96x96_0_0))
        (View.ld wg1 (Rect.unit ![96, 0] ![96, 96] inb_S193x96_S96x96_96_0))
        (View.ld wg1 (Rect.unit ![192, 0] ![1, 96] inb_S193x96_S1x96_192_0)) bg1 (ix2 n d)
      = g n d * Ideal.logistic (g n d) := by
  subst hg
  unfold gateIn
  pointwise [k0_pay9, k0_pay8]

/-- The last step: the gate, the selection by the rank found, the blend, transposed. -/
theorem blend_at (v2 v49 g : FVec Ideal S1024x96 .f32) (wg2 : Vec Ideal S1x96 .f32) (bg2 : Vec Ideal S1x1 .f32)
    (r : FVec Ideal S1024x1 .f32) (z : Fin 1) (d : Fin 96) (n : Fin 1024) :
    k0_pay3 v2 v49 g (k0_pay10 wg2) bg2 r (ix3 z d n)
      = blend (fun n d => v2 (ix2 n d)) (fun n d => v49 (ix2 n d))
          (fun n => (if r (ix2 n 0) < ((154 : ℕ) : EReal) then 1 else 0)
            * Ideal.logistic (∑ k : Fin 96, g (ix2 n k) * wg2 (ix2 0 k) + bg2 (ix2 0 0))) n d := by
  unfold blend
  pointwise [k0_pay3, k0_pay10]
  rw [word_154, bit_float]
  simp only [decide_eq_true_eq]

end Cert.Refine

end
-- ==== Proof.Loop.lean ====
module

public import proofs.«01_k».proof.Proof.Block
public import Idealize.ShloMosaic.Lib.WholeRead

/-!
# The loop that ranks the scores

The kernel's loop goes through the 1024 scores of the batch row in eight chunks of 128. It carries one number per token:
how many of the scores seen so far come before that token's.
-/

@[expose] public section

set_option maxRecDepth 16384

noncomputable section

namespace Cert.Refine

open Idealize.ShloMosaic Idealize.ShloMosaic.TcCoe Idealize.SL.Sem Idealize.ShloMosaic.Tactic
open Cert.KernelIdeal Cert.KernelIdeal.Gen

/-- The signed comparison of two words that hold numbers below 2 ^ 31 compares the numbers. -/
theorem slt_ofNat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  simp only [BitVec.slt]
  rw [BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  simp

/-- The position of a score in the row, as the kernel's words compute it. -/
theorem chunk_word (t l : ℕ) :
    IntOp.addi (Scalar.muli (Scf.iv 0#32 1#32 t) 128#32) (BitVec.ofNat 32 l) = BitVec.ofNat 32 (t * 128 + l) := by
  show (0#32 + BitVec.ofNat 32 t * 1#32) * 128#32 + BitVec.ofNat 32 l = _
  rw [BitVec.zero_add, BitVec.mul_one, BitVec.ofNat_add, BitVec.ofNat_mul]

/-- The position of a token in the row, as the kernel's words compute it: there is one block of tokens. -/
theorem token_word (n : ℕ) :
    IntOp.addi (Scalar.muli 0#32 1024#32) (BitVec.ofNat 32 n) = BitVec.ofNat 32 n := by
  show 0#32 * 1024#32 + BitVec.ofNat 32 n = _
  simp

/-- The loop makes eight trips. -/
theorem trips_eq : k0_t1_loop.trips = 8 := by decide +kernel

open Classical in
/-- One trip of the loop adds, at each token, the number of the chunk's scores that come before it. -/
theorem trip_at (v : FVec Ideal S1024x1 .f32) (t : Fin k0_t1_loop.trips) (ht : t.val < 8) (acc : FVec Ideal S1024x1 .f32)
    (w : Vec Ideal S1x1x128 .f32) (s : Fin 1024 → EReal) (hv : ∀ n, v (ix2 n 0) = s n)
    (hw : ∀ l : Fin 128, w (ix3 0 0 l) = s ⟨t.val * 128 + l.val, by omega⟩) (n : Fin 1024) (z : Fin 1) :
    k0_pay2 0#32 v t acc w (ix2 n z)
      = acc (ix2 n z) + ∑ l : Fin 128, if Beats s ⟨t.val * 128 + l.val, by omega⟩ n then (1 : EReal) else 0 := by
  pointwise [k0_pay2]
  refine congrArg (_ + ·) (Finset.sum_congr rfl fun l _ => ?_)
  rw [hv, hw, chunk_word, token_word, slt_ofNat _ _ (by omega) (by omega)]
  have hb : ∀ p q r : Bool, IntOp.ori (BitVec.ofBool p) (IntOp.andi (BitVec.ofBool q) (BitVec.ofBool r))
      = BitVec.ofBool (p || (q && r)) := by decide
  rw [hb, bit_float]
  simp only [Bool.or_eq_true, Bool.and_eq_true, decide_eq_true_eq]
  exact if_congr Iff.rfl rfl rfl

/-- The part of the scores that trip `k` loads. -/
theorem chunk_at (w : Vec Ideal S1x1x1024 .f32) (k : Fin k0_t1_loop.trips) (hk : k.val < 8) (inb) (l : Fin 128) :
    View.ld w (Rect.unit (k0_off2 k) ![1, 1, 128] inb) (ix3 0 0 l)
      = w (ix3 0 0 ⟨k.val * 128 + l.val, by omega⟩) := by
  refine View.ld_unit_apply_of w _ _ _ _ _ fun a => ?_
  rw [congrFun (k0_off2_eq k) a]
  match a with
  | ⟨0, _⟩ => rfl
  | ⟨1, _⟩ => rfl
  | ⟨2, _⟩ => show k.val * 128 + l.val = 128 * k.val + l.val; omega

/-- The block's own scores: the block is the whole row. -/
theorem own_eq (w : Vec Ideal S1x1x1024 .f32) (t : Fin cfg0.N) (inb) :
    (View.ld w (Rect.unit (k0_off1 (grid0.coords t)) ![1, 1, 1024] inb) : Vec Ideal S1x1x1024 .f32) = w := by
  have h : ∀ t : Fin grid0.N, (grid0.coords t 1).val = 0 := by decide +kernel
  refine funext fun y => View.ld_unit_apply_of w _ _ _ _ _ fun a => ?_
  rw [congrFun (k0_off1_eq (grid0.coords t)) a, h]
  match a with
  | ⟨0, _⟩ => exact (Nat.zero_add _).symm
  | ⟨1, _⟩ => exact (Nat.zero_add _).symm
  | ⟨2, _⟩ => exact (Nat.zero_add _).symm

/-- The word of the block's number is zero. -/
theorem block_word (t : Fin cfg0.N) : BitVec.ofNat 32 (grid0.coords t 1).val = 0#32 := by
  have h : ∀ t : Fin grid0.N, (grid0.coords t 1).val = 0 := by decide +kernel
  rw [h]

variable (m : (ℓ : Loc nD τ sig) → Buf (Elt Ideal) ℓ)

open Classical in
/-- What the loop carries before trip `k`: at each token the number of the scores of the first `k` chunks that come
before it. -/
theorem state_at (c : Dev nD) (t : Fin cfg0.N) (a : BitVec 32) (ha : a = 0#32) (v : FVec Ideal S1024x1 .f32)
    (s : Fin 1024 → EReal) (hv : ∀ n, v (ix2 n 0) = s n) (hs : ∀ n, iblk m c 2 t (ix3 0 0 n) = s n) (k : ℕ) (hk : k ≤ 8)
    (n : Fin 1024) :
    st_k0_t1 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) (ms0_11 t) (hs0_11 t) a v ((hs0_2 t).unread (iblk m c 2 t)) k0_pay1 k
      (ix2 n 0)
      = ∑ j : Fin k, ∑ l : Fin 128, if Beats s ⟨j.val * 128 + l.val, by omega⟩ n then (1 : EReal) else 0 := by
  subst ha
  induction k with
  | zero =>
    rw [st_k0_t1_zero]
    pointwise [k0_pay1]
    simp
  | succ k ih =>
    have hlt : k < k0_t1_loop.trips := by rw [trips_eq]; omega
    refine (congrFun (st_k0_t1_succ (k := ⟨k, hlt⟩) ..) _).trans ?_
    unfold tripR_k0_t1 trip_k0_t1
    dsimp only
    rw [trip_at v ⟨k, hlt⟩ (by simp; omega) _ _ s hv (fun l => ?_) n 0, ih (by omega)]
    · exact (Fin.sum_univ_castSucc (n := k) fun j : Fin (k + 1) =>
        ∑ l : Fin 128, if Beats s ⟨j.val * 128 + l.val, by omega⟩ n then (1 : EReal) else 0).symm
    · refine (Memref.IsWhole.readAt_unread (hs0_2 t) _ _ _).trans ?_
      exact (chunk_at (iblk m c 2 t) ⟨k, hlt⟩ (by simp; omega) _ l).trans (hs _)

/-- What the loop ends with: at each token its rank. -/
theorem rank_at (c : Dev nD) (t : Fin cfg0.N) (a : BitVec 32) (ha : a = 0#32) (v : FVec Ideal S1024x1 .f32)
    (s : Fin 1024 → EReal) (hv : ∀ n, v (ix2 n 0) = s n) (hs : ∀ n, iblk m c 2 t (ix3 0 0 n) = s n) (k : ℕ) (hk : k = 8)
    (n : Fin 1024) :
    st_k0_t1 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t) (ms0_8 t) (hs0_8 t)
      (ms0_9 t) (hs0_9 t) (ms0_10 t) (hs0_10 t) (ms0_11 t) (hs0_11 t) a v ((hs0_2 t).unread (iblk m c 2 t)) k0_pay1 k
      (ix2 n 0) = ((rank s n : ℕ) : EReal) := by
  classical
  subst hk
  rw [state_at m c t a ha v s hv hs 8 le_rfl n]
  unfold rank
  rw [← sum_ite_one]
  exact (Fin.sum_univ_tiles 8 128 rfl fun j : Fin 1024 => if Beats s j n then (1 : EReal) else 0).symm

end Cert.Refine

end
-- ==== Proof.Point.lean ====
module

public import proofs.«01_k».proof.Proof.Loop

/-!
# The block one grid point writes

The block is the whole computation on the batch row that the point's input blocks hold.
-/

@[expose] public section

set_option maxRecDepth 16384

noncomputable section

namespace Cert.Refine

open Idealize.ShloMosaic Idealize.ShloMosaic.TcCoe Idealize.SL.Sem Idealize.ShloMosaic.Tactic
open Cert.KernelIdeal Cert.KernelIdeal.Gen

/-- The refined tokens from the block of high-resolution tokens and the weights. -/
theorem refined_full (v : Vec Ideal S1x96x4096 .f32) (b1 : Vec Ideal S1x96 .f32) (w1 : Vec Ideal S384x96 .f32)
    (w2 : Vec Ideal S96x96 .f32) (b2 : Vec Ideal S1x96 .f32) (n : Fin 1024) (d : Fin 96) :
    k0_pay7
        (k0_pay5 v b1 (View.ld w1 (Rect.unit ![0, 0] ![96, 96] inb_S384x96_S96x96_0_0))
          (View.ld w1 (Rect.unit ![96, 0] ![96, 96] inb_S384x96_S96x96_96_0))
          (View.ld w1 (Rect.unit ![192, 0] ![96, 96] inb_S384x96_S96x96_192_0))
          (View.ld w1 (Rect.unit ![288, 0] ![96, 96] inb_S384x96_S96x96_288_0)))
        (k0_pay6 v b1 (View.ld w1 (Rect.unit ![0, 0] ![96, 96] inb_S384x96_S96x96_0_0))
          (View.ld w1 (Rect.unit ![96, 0] ![96, 96] inb_S384x96_S96x96_96_0))
          (View.ld w1 (Rect.unit ![192, 0] ![96, 96] inb_S384x96_S96x96_192_0))
          (View.ld w1 (Rect.unit ![288, 0] ![96, 96] inb_S384x96_S96x96_288_0)))
        w2 b2 (ix2 n d)
      = refined (pre (fun l d => v (ix3 0 d l)) (fun k d => w1 (ix2 k d)) fun d => b1 (ix2 0 d))
          (fun k d => w2 (ix2 k d)) (fun d => b2 (ix2 0 d)) n d := by
  rw [refined_at _ _ _ _ (fun n k => half_at _ _ _ _ _ _ n k)]
  simp only [pre_at]

variable (m : (ℓ : Loc nD τ sig) → Buf (Elt Ideal) ℓ)

/-- The block that grid point `t` writes, at channel `d` of token `n`: the whole computation on the input blocks. -/
theorem point (c : Dev nD) (t : Fin cfg0.N) (z : Fin 1) (d : Fin 96) (n : Fin 1024) :
    outsAt0 m c t (ix3 z d n)
      = out (fun n d => iblk m c 0 t (ix3 0 d n)) (fun l d => iblk m c 1 t (ix3 0 d l)) (fun n => iblk m c 2 t (ix3 0 0 n))
          (fun k d => iblk m c 3 t (ix2 k d)) (fun d => iblk m c 4 t (ix2 0 d)) (fun k d => iblk m c 5 t (ix2 k d))
          (fun d => iblk m c 6 t (ix2 0 d)) (fun k d => iblk m c 7 t (ix2 k d)) (fun d => iblk m c 8 t (ix2 0 d))
          (fun k => iblk m c 9 t (ix2 0 k)) (iblk m c 10 t (ix2 0 0)) n d := by
  unfold outsAt0
  frame_out
  rw [blend_at]
  simp only [own_eq, silu_at _ _ _ _ _ _ _ _ _ rfl, base_at, refined_full]
  unfold out mask gate
  have hr := fun n => rank_at m c t _ (block_word t) (k0_pay8 (iblk m c 2 t)) (fun n => iblk m c 2 t (ix3 0 0 n))
    (fun n => score_at _ n 0) (fun _ => rfl) _ trips_eq n
  simp only [hr, Nat.cast_lt]

end Cert.Refine

end
-- ==== Proof.Array.lean ====
module

public import proofs.«01_k».proof.Proof.Point

/-!
# The array the kernel leaves

The blocks the grid points read, in terms of the arguments, and the array they write, block by block.
-/

@[expose] public section

set_option maxRecDepth 16384

noncomputable section

namespace Cert.Refine

open Idealize.ShloMosaic Idealize.ShloMosaic.TcCoe Idealize.SL.Sem Idealize.ShloMosaic.Tactic
open Cert.KernelIdeal Cert.KernelIdeal.Gen

variable (m : (ℓ : Loc nD τ sig) → Buf (Elt Ideal) ℓ)

/-- Which block of its array each window names at grid point `t`: batch row `t` for the tokens, the scores and the output,
the whole array for the weights. -/
theorem idx : ∀ t : Fin cfg0.N, win0_0.index t = ![t.val, 0, 0] ∧ win0_1.index t = ![t.val, 0, 0]
    ∧ win0_2.index t = ![t.val, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val, 0, 0] :=
  (by decide +kernel : ∀ t : Fin grid0.N, _)

/-- The base tokens the kernel is given: the argument with channels before tokens. -/
theorem host0 (c : Dev nD) (i : Fin 32) (d : Fin 96) (n : Fin 1024) :
    V m c main_v0 (ix3 i d n) = m ((c.tc : Thread nD τ).loc main_arg0) (ix3 i n d) := by
  simp only [V, V0, List.flatten_cons, List.flatten_nil, List.append_nil]
  entry_read
  pointwise

/-- The fine tokens the kernel is given: the argument with channels before tokens. -/
theorem host1 (c : Dev nD) (i : Fin 32) (d : Fin 96) (l : Fin 4096) :
    V m c main_v1 (ix3 i d l) = m ((c.tc : Thread nD τ).loc main_arg1) (ix3 i l d) := by
  simp only [V, V0, List.flatten_cons, List.flatten_nil, List.append_nil]
  entry_read
  pointwise

/-- The scores the kernel is given, one row per batch row. -/
theorem host2 (c : Dev nD) (i : Fin 32) (z : Fin 1) (n : Fin 1024) :
    V m c main_v2 (ix3 i z n) = m ((c.tc : Thread nD τ).loc main_arg2) (ix2 i n) := by
  simp only [V, V0, List.flatten_cons, List.flatten_nil, List.append_nil]
  entry_read
  pointwise

/-- The first bias of the refinement, as a row. -/
theorem host3 (c : Dev nD) (z : Fin 1) (d : Fin 96) :
    V m c main_v3 (ix2 z d) = m ((c.tc : Thread nD τ).loc main_arg4) (ix1 d) := by
  simp only [V, V0, List.flatten_cons, List.flatten_nil, List.append_nil]
  entry_read
  pointwise

/-- The second bias of the refinement, as a row. -/
theorem host4 (c : Dev nD) (z : Fin 1) (d : Fin 96) :
    V m c main_v4 (ix2 z d) = m ((c.tc : Thread nD τ).loc main_arg6) (ix1 d) := by
  simp only [V, V0, List.flatten_cons, List.flatten_nil, List.append_nil]
  entry_read
  pointwise

/-- The first bias of the gate, as a row. -/
theorem host5 (c : Dev nD) (z : Fin 1) (d : Fin 96) :
    V m c main_v5 (ix2 z d) = m ((c.tc : Thread nD τ).loc main_arg8) (ix1 d) := by
  simp only [V, V0, List.flatten_cons, List.flatten_nil, List.append_nil]
  entry_read
  pointwise

/-- The second weights of the gate, as a row. -/
theorem host6 (c : Dev nD) (z : Fin 1) (k : Fin 96) :
    V m c main_v6 (ix2 z k) = m ((c.tc : Thread nD τ).loc main_arg9) (ix2 k 0) := by
  simp only [V, V0, List.flatten_cons, List.flatten_nil, List.append_nil]
  entry_read
  pointwise

/-- The second bias of the gate. -/
theorem host7 (c : Dev nD) (z z' : Fin 1) :
    V m c main_v7 (ix2 z z') = m ((c.tc : Thread nD τ).loc main_arg10) (ix1 0) := by
  simp only [V, V0, List.flatten_cons, List.flatten_nil, List.append_nil]
  entry_read
  pointwise

/-- The batch row a grid point works on. -/
def row (t : Fin cfg0.N) : Fin 32 := ⟨t.val, t.isLt⟩

/-- Grid point `t` reads the base tokens of batch row `t`. -/
theorem blk0 (c : Dev nD) (t : Fin cfg0.N) (d : Fin 96) (n : Fin 1024) :
    iblk m c 0 t (ix3 0 d n) = m ((c.tc : Thread nD τ).loc main_arg0) (ix3 (row t) n d) := by
  refine Eq.trans ?_ (host0 m c (row t) d n)
  blk_ext [iblk, row, idx t]

/-- Grid point `t` reads the fine tokens of batch row `t`. -/
theorem blk1 (c : Dev nD) (t : Fin cfg0.N) (d : Fin 96) (l : Fin 4096) :
    iblk m c 1 t (ix3 0 d l) = m ((c.tc : Thread nD τ).loc main_arg1) (ix3 (row t) l d) := by
  refine Eq.trans ?_ (host1 m c (row t) d l)
  blk_ext [iblk, row, idx t]

/-- Grid point `t` reads the scores of batch row `t`. -/
theorem blk2 (c : Dev nD) (t : Fin cfg0.N) (n : Fin 1024) :
    iblk m c 2 t (ix3 0 0 n) = m ((c.tc : Thread nD τ).loc main_arg2) (ix2 (row t) n) := by
  refine Eq.trans ?_ (host2 m c (row t) 0 n)
  blk_ext [iblk, row, idx t]

/-- Every grid point reads all of the first weights of the refinement. -/
theorem blk3 (c : Dev nD) (t : Fin cfg0.N) (k : Fin 384) (d : Fin 96) :
    iblk m c 3 t (ix2 k d) = m ((c.tc : Thread nD τ).loc main_arg3) (ix2 k d) := by
  refine Eq.trans ?_ (congrFun (V_main_arg3 m c) (ix2 k d))
  blk_ext [iblk, row, idx t]

/-- Every grid point reads the first bias of the refinement. -/
theorem blk4 (c : Dev nD) (t : Fin cfg0.N) (d : Fin 96) :
    iblk m c 4 t (ix2 0 d) = m ((c.tc : Thread nD τ).loc main_arg4) (ix1 d) := by
  refine Eq.trans ?_ (host3 m c 0 d)
  blk_ext [iblk, row, idx t]

/-- Every grid point reads all of the second weights of the refinement. -/
theorem blk5 (c : Dev nD) (t : Fin cfg0.N) (k : Fin 96) (d : Fin 96) :
    iblk m c 5 t (ix2 k d) = m ((c.tc : Thread nD τ).loc main_arg5) (ix2 k d) := by
  refine Eq.trans ?_ (congrFun (V_main_arg5 m c) (ix2 k d))
  blk_ext [iblk, row, idx t]

/-- Every grid point reads the second bias of the refinement. -/
theorem blk6 (c : Dev nD) (t : Fin cfg0.N) (d : Fin 96) :
    iblk m c 6 t (ix2 0 d) = m ((c.tc : Thread nD τ).loc main_arg6) (ix1 d) := by
  refine Eq.trans ?_ (host4 m c 0 d)
  blk_ext [iblk, row, idx t]

/-- Every grid point reads all of the first weights of the gate. -/
theorem blk7 (c : Dev nD) (t : Fin cfg0.N) (k : Fin 193) (d : Fin 96) :
    iblk m c 7 t (ix2 k d) = m ((c.tc : Thread nD τ).loc main_arg7) (ix2 k d) := by
  refine Eq.trans ?_ (congrFun (V_main_arg7 m c) (ix2 k d))
  blk_ext [iblk, row, idx t]

/-- Every grid point reads the first bias of the gate. -/
theorem blk8 (c : Dev nD) (t : Fin cfg0.N) (d : Fin 96) :
    iblk m c 8 t (ix2 0 d) = m ((c.tc : Thread nD τ).loc main_arg8) (ix1 d) := by
  refine Eq.trans ?_ (host5 m c 0 d)
  blk_ext [iblk, row, idx t]

/-- Every grid point reads the second weights of the gate. -/
theorem blk9 (c : Dev nD) (t : Fin cfg0.N) (k : Fin 96) :
    iblk m c 9 t (ix2 0 k) = m ((c.tc : Thread nD τ).loc main_arg9) (ix2 k 0) := by
  refine Eq.trans ?_ (host6 m c 0 k)
  blk_ext [iblk, row, idx t]

/-- Every grid point reads the second bias of the gate. -/
theorem blk10 (c : Dev nD) (t : Fin cfg0.N) :
    iblk m c 10 t (ix2 0 0) = m ((c.tc : Thread nD τ).loc main_arg10) (ix1 0) := by
  refine Eq.trans ?_ (host7 m c 0 0)
  blk_ext [iblk, row, idx t]

/-- The kernel's result at batch row `i`, token `n` and channel `d`, from the arguments. -/
def kernelOut (c : Dev nD) (i : Fin 32) (n : Fin 1024) (d : Fin 96) : EReal :=
  out (fun n d => m ((c.tc : Thread nD τ).loc main_arg0) (ix3 i n d))
    (fun l d => m ((c.tc : Thread nD τ).loc main_arg1) (ix3 i l d))
    (fun n => m ((c.tc : Thread nD τ).loc main_arg2) (ix2 i n))
    (fun k d => m ((c.tc : Thread nD τ).loc main_arg3) (ix2 k d))
    (fun d => m ((c.tc : Thread nD τ).loc main_arg4) (ix1 d))
    (fun k d => m ((c.tc : Thread nD τ).loc main_arg5) (ix2 k d))
    (fun d => m ((c.tc : Thread nD τ).loc main_arg6) (ix1 d))
    (fun k d => m ((c.tc : Thread nD τ).loc main_arg7) (ix2 k d))
    (fun d => m ((c.tc : Thread nD τ).loc main_arg8) (ix1 d))
    (fun k => m ((c.tc : Thread nD τ).loc main_arg9) (ix2 k 0))
    (m ((c.tc : Thread nD τ).loc main_arg10) (ix1 0)) n d

/-- What grid point `t` writes is the result of batch row `t`. -/
theorem point_out (c : Dev nD) (t : Fin cfg0.N) (z : Fin 1) (d : Fin 96) (n : Fin 1024) :
    outsAt0 m c t (ix3 z d n) = kernelOut m c (row t) n d := by
  rw [point]
  simp only [blk0, blk1, blk2, blk3, blk4, blk5, blk6, blk7, blk8, blk9, blk10]
  rfl

/-- The array the kernel leaves, channels before tokens. -/
theorem final (c : Dev nD) :
    (dats m 0 c).arrAt 11 (cfgs 0).N = fun x : S32x96x1024.Idx => kernelOut m c (x 0) (x 2) (x 1) := by
  refine (dats m 0 c).arrAt_eq_of_covers 11 _ (by decide +kernel) fun t _ y => ?_
  blk_simp
  rw [after0_11]
  idx_vars y
  refine (point_out m c t y0 y1 y2).trans ?_
  have e : ((View.whole main_v8).slice (win0_11.rect t)).emb (ix3 y0 y1 y2) = (ix3 (row t) y1 y2 : S32x96x1024.Idx) := by
    blk_ext [row, idx t]
  rw [e]
  rfl

/-- The program's result: the array the kernel leaves with tokens before channels again. -/
theorem result (c : Dev nD) (i : Fin 32) (n : Fin 1024) (d : Fin 96) :
    Pipeline.afterTail₀ cfgs (dats m) 0 (V0 m) [hostOps1] c main_v9 (ix3 i n d) = kernelOut m c i n d := by
  simp only [Pipeline.afterTail₀, List.flatten_cons, List.flatten_nil, List.append_nil]
  entry_read
  refine (congrArg (fun a => transpose S32x1024x96 [0, 2, 1] a transposes_S32x96x1024_S32x1024x96_0_2_1 (ix3 i n d))
    (((dats m 0 c).withArrays_arrAt (by decide) (V0 m c) (fun _ => rfl) 11).trans (final m c))).trans ?_
  pointwise

end Cert.Refine

end
-- ==== Proof.Order.lean ====
module

public import proofs.«01_k».proof.Proof.Spec
public import Idealize.ShloMosaic.Lib.PlanTiles.StableSort

/-!
# The place of a token in the sort

A stable sort by falling scores puts a token at the place that is the number of tokens before it.
-/

@[expose] public section

noncomputable section

namespace Cert.Refine

open Idealize.ShloMosaic

variable (s : Fin 1024 → EReal)

/-- A token does not come before itself. -/
theorem beats_irrefl (n : Fin 1024) : ¬ Beats s n n := fun h => h.elim (lt_irrefl _) fun h => lt_irrefl _ h.2

/-- Of two tokens that each come before the other there are none. -/
theorem beats_asymm {j n : Fin 1024} (h : Beats s j n) : ¬ Beats s n j := fun h' => by
  rcases h with h | h <;> rcases h' with h' | h'
  · exact lt_asymm h h'
  · exact h.ne h'.1
  · exact h'.ne h.1
  · exact lt_asymm h.2 h'.2

/-- How many tokens have a smaller score. -/
def below (n : Fin 1024) : ℕ := (Finset.univ.filter fun j => s j < s n).card

/-- Counting the smaller scores keeps the order of the scores. -/
theorem below_lt (a b : Fin 1024) : below s a < below s b ↔ s a < s b := by
  refine ⟨fun h => ?_, fun h => Finset.card_lt_card ?_⟩
  · by_contra hn
    refine absurd (Finset.card_le_card ?_) (Nat.not_le.2 h)
    intro j hj
    rw [Finset.mem_filter] at hj ⊢
    exact ⟨hj.1, hj.2.trans_le (not_lt.1 hn)⟩
  · rw [Finset.ssubset_iff_of_subset]
    · exact ⟨a, by simp [h], by simp⟩
    · intro j hj
      rw [Finset.mem_filter] at hj ⊢
      exact ⟨hj.1, hj.2.trans h⟩

/-- Equal counts come from equal scores. -/
theorem below_eq {a b : Fin 1024} (h : below s a = below s b) : s a = s b :=
  le_antisymm (not_lt.1 fun h' => ((below_lt s b a).2 h').ne h.symm) (not_lt.1 fun h' => ((below_lt s a b).2 h').ne h)

/-- "Has the greater score", as a comparator. -/
def greater (a b : Fin 1024) : Bool := decide (s b < s a)

/-- Along the sorted list each token comes before the later ones. -/
theorem sorted_beats : (sortPositions 1024 (greater s)).Pairwise (Beats s) := by
  have e : greater s = fun a b => decide (below s b < below s a) := by
    funext a b
    exact decide_eq_decide.2 (below_lt s b a).symm
  rw [e]
  refine (PlanTiles.pairwise_stableSort_lex (below s) (· < ·) (List.finRange 1024) (List.pairwise_lt_finRange 1024)).imp ?_
  rintro a b (h | h)
  · exact Or.inl ((below_lt s b a).1 h)
  · exact Or.inr ⟨below_eq s h.1, h.2⟩

/-- The token at an earlier place comes before the token at a later place, and only then. -/
theorem sortedFrom_beats (j k : Fin 1024) :
    Beats s (sortedFrom (greater s) j) (sortedFrom (greater s) k) ↔ j < k := by
  have key : ∀ j k : Fin 1024, j < k → Beats s (sortedFrom (greater s) j) (sortedFrom (greater s) k) := by
    intro j k h
    have := List.pairwise_iff_get.1 (sorted_beats s) (j.cast (length_sortPositions 1024 (greater s)).symm)
      (k.cast (length_sortPositions 1024 (greater s)).symm) (by rw [Fin.lt_def, Fin.val_cast, Fin.val_cast]; exact h)
    unfold sortedFrom
    exact this
  refine ⟨fun h => ?_, key j k⟩
  rcases lt_trichotomy j k with h' | h' | h'
  · exact h'
  · subst h'
    exact absurd h (beats_irrefl s _)
  · exact absurd h (beats_asymm s (key k j h'))

/-- The token at place `k` has exactly `k` tokens before it. -/
theorem rank_sortedFrom (k : Fin 1024) : rank s (sortedFrom (greater s) k) = k.val := by
  classical
  have e : (Finset.univ.filter fun j => Beats s j (sortedFrom (greater s) k))
      = (Finset.univ.filter fun j : Fin 1024 => j < k).image (sortedFrom (greater s)) := by
    ext j
    obtain ⟨j, rfl⟩ := sortedFrom_surjective (greater s) j
    simp only [Finset.mem_filter, Finset.mem_univ, true_and, Finset.mem_image, sortedFrom_beats]
    exact ⟨fun h => ⟨j, h, rfl⟩, fun ⟨j', h, e⟩ => sortedFrom_injective (greater s) e ▸ h⟩
  have : rank s (sortedFrom (greater s) k)
      = (Finset.univ.filter fun j => Beats s j (sortedFrom (greater s) k)).card := by
    unfold rank
    congr 1
  rw [this, e, Finset.card_image_of_injective _ (sortedFrom_injective (greater s)), Finset.filter_gt_eq_Iio, Fin.card_Iio]

/-- A token is at one of the first 154 places exactly when fewer than 154 tokens come before it. -/
theorem among_first (n : Fin 1024) :
    (∃ k : Fin 154, sortedFrom (greater s) ⟨k.val, by omega⟩ = n) ↔ rank s n < 154 := by
  constructor
  · rintro ⟨k, rfl⟩
    rw [rank_sortedFrom]
    exact k.isLt
  · intro h
    obtain ⟨k, rfl⟩ := sortedFrom_surjective (greater s) n
    rw [rank_sortedFrom] at h
    exact ⟨⟨k.val, h⟩, rfl⟩

end Cert.Refine

end
-- ==== Proof.Reference.lean ====
module

public import proofs.«01_k».proof.Proof.Order
public import proofs.«01_k».proof.Proof.Gen.ReferenceIdeal.Read
public import Idealize.ShloMosaic.Lib.Pointwise
public import Idealize.ShloMosaic.Lib.Routing.OpsPair
public import Idealize.ShloMosaic.Lib.Routing.OpsSet
public import Idealize.ShloMosaic.Lib.Routing.BitFacts

/-!
# What the reference computes

The reference's arrays, one entry at a time, in the terms of the specification.
-/

@[expose] public section

set_option maxRecDepth 16384

noncomputable section

namespace Cert.Refine

open Idealize.ShloMosaic Idealize.ShloMosaic.TcCoe Idealize.SL.Sem Idealize.ShloMosaic.Tactic
open Cert.ReferenceIdeal Cert.ReferenceIdeal.Gen Cert.ReferenceIdeal.Read

variable (x0 : Vec Ideal S32x1024x96 .f32) (x1 : Vec Ideal S32x4096x96 .f32) (x2 : Vec Ideal S32x1024 .f32)
  (x3 : Vec Ideal S384x96 .f32) (x4 : Vec Ideal S96 .f32) (x5 : Vec Ideal S96x96 .f32) (x6 : Vec Ideal S96 .f32)
  (x7 : Vec Ideal S193x96 .f32) (x8 : Vec Ideal S96 .f32) (x9 : Vec Ideal S96x1 .f32) (x10 : Vec Ideal S1 .f32)

/-- A patch of the fine tokens: entry `k` of token `n` is channel `patchCol k` of fine token `patchRow n k`. -/
theorem patch_at (b : Fin 32) (n : Fin 1024) (k : Fin 384) :
    val_main_v2 (F := Ideal) x1 (ix3 b n k) = x1 (ix3 b (patchRow n k) (patchCol k)) := by
  pointwise [val_main_v2, val_main_v1, val_main_v0]
  rfl

/-- The refined tokens. -/
theorem ref_refined (b : Fin 32) (n : Fin 1024) (d : Fin 96) :
    val_main_v17 (F := Ideal) x1 x3 x4 x5 x6 (ix3 b n d)
      = refined (pre (fun l d => x1 (ix3 b l d)) (fun k d => x3 (ix2 k d)) fun d => x4 (ix1 d))
          (fun k d => x5 (ix2 k d)) (fun d => x6 (ix1 d)) n d := by
  pointwise [val_main_v17, val_main_v16, val_main_v15, val_main_v14, val_main_v13, val_main_v12,
    val_main_v11, val_main_v10, val_main_v9, val_main_v8, val_main_v7, val_main_v6, val_main_v5, val_main_v4,
    val_main_v3, val_main_cst, val_main_cst_0]
  simp only [patch_at, neg_mul, Ideal.erfc_neg]
  rfl

/-- The gate's hidden layer. -/
theorem ref_gateIn (b : Fin 32) (n : Fin 1024) (d : Fin 96) :
    val_main_v23 (F := Ideal) x0 x1 x2 x3 x4 x5 x6 x7 x8 (ix3 b n d)
      = gateIn (fun n d => x0 (ix3 b n d))
          (refined (pre (fun l d => x1 (ix3 b l d)) (fun k d => x3 (ix2 k d)) fun d => x4 (ix1 d))
            (fun k d => x5 (ix2 k d)) (fun d => x6 (ix1 d)))
          (fun n => x2 (ix2 b n)) (fun k d => x7 (ix2 k d)) (fun d => x8 (ix1 d)) n d := by
  pointwise [val_main_v23, val_main_v22, val_main_v21, val_main_v20, val_main_v19, val_main_v18]
  rw [sum_gate]
  simp only [ref_refined]
  unfold gateIn
  congr 1

/-- The gate. -/
theorem ref_gate (b : Fin 32) (n : Fin 1024) (z : Fin 1) (G : Fin 1024 → Fin 96 → EReal)
    (hG : ∀ n d, val_main_v23 (F := Ideal) x0 x1 x2 x3 x4 x5 x6 x7 x8 (ix3 b n d) = G n d) :
    val_main_v34 (F := Ideal) x0 x1 x2 x3 x4 x5 x6 x7 x8 x9 x10 (ix3 b n z)
      = gate G (fun k => x9 (ix2 k 0)) (x10 (ix1 0)) n := by
  pointwise [val_main_v34, val_main_v33, val_main_v32, val_main_v31, val_main_v30, val_main_v29, val_main_v28, val_main_v27,
    val_main_v26, val_main_v25, val_main_v24, val_main_call0_v5, val_main_call0_v4, val_main_call0_v3, val_main_call0_v2,
    val_main_call0_v1, val_main_call0_v0, val_main_call0_cst, val_main_call0_cst_0, val_main_cst_1, val_main_cst_2]
  simp only [hG]
  obtain rfl : z = 0 := Subsingleton.elim _ _
  rfl

/-- The word at which the first index of an update is read: its batch row. -/
theorem start_row (b : Fin 32) (k : Fin 154) : val_main_v51 (F := Ideal) x2 (ix3 b k 0) = BitVec.ofNat 32 b.val := by
  pointwise [val_main_v51, val_main_v49, val_main_v48, val_main_v42, val_main_v41, val_main_v40, val_main_v39, val_main_v38,
    val_main_v36, val_main_v35, val_main_c, val_main_c_4]
  refine Routing.wrap_of_lt _ _ ?_
  rw [BitVec.toNat_ofNat, Nat.mod_eq_of_lt (by omega)]
  omega

/-- The reference's comparator, "the first score is the greater one". -/
theorem gt_bit (a b : EReal) : (FloatOps.cmpfTotal (F := Ideal) (φ := .f32) .gt a b == 1#1) = decide (b < a) := by
  show (BitVec.ofBool (decide (b < a)) == 1#1) = _
  cases decide (b < a) <;> rfl

/-- The positions of the first entries of each row of a matrix, sorted stably by a comparator. -/
theorem topK_at {R C K : ℕ} (gt : EReal → EReal → BitVec 1) (x : (Routing.shape2 R C).Idx → EReal)
    (h : (Routing.shape2 R C).Slices (fun _ => 0) (Routing.shape2 R K)) (hK : K ≤ C) (b : Fin R) (k : Fin K) :
    (Host.topK (Routing.shape2 R K) 1 gt x h).2 (ix2 b k)
      = BitVec.ofNat 32 (sortedFrom (fun a a' : Fin C => gt (x (ix2 b a)) (x (ix2 b a')) == 1#1)
          ⟨k.val, k.isLt.trans_le hK⟩).val := by
  have e : ∀ (j : (Routing.shape2 R C).Idx) (n : Fin C), j.along (1 : Fin 2) n = (ix2 (j 0) n : (Routing.shape2 R C).Idx) := fun j n => by
    funext a
    match a with
    | ⟨0, _⟩ => rfl
    | ⟨1, _⟩ => rfl
  have key : ∀ j : (Routing.shape2 R C).Idx,
      (Host.sort2 (Routing.shape2 R C) 1 (fun l r : EReal × BitVec 32 => gt l.1 r.1) x
          (fun i => if hd : 1 < (Routing.shape2 R C).rank then iotaInDim (Routing.shape2 R C) 32 ⟨1, hd⟩ i else 0#32)).2 j
        = BitVec.ofNat 32 (sortedFrom (fun a a' : Fin C => gt (x (ix2 (j 0) a)) (x (ix2 (j 0) a')) == 1#1) (j 1)).val := fun j => by
    have hb : (fun a a' : Fin C => gt (x (j.along (1 : Fin 2) a)) (x (j.along (1 : Fin 2) a')) == 1#1)
        = fun a a' : Fin C => gt (x (ix2 (j 0) a)) (x (ix2 (j 0) a')) == 1#1 := by
      funext a a'
      rw [e, e]
    exact congrArg (fun B => BitVec.ofNat 32 (sortedFrom B (j 1)).val) hb
  have hj : (fun a => ⟨0 + ((ix2 b k : (Routing.shape2 R K).Idx) a).val, by
        match a with
        | ⟨0, _⟩ => exact (Nat.zero_add b.val).symm ▸ b.isLt
        | ⟨1, _⟩ => exact (Nat.zero_add k.val).symm ▸ k.isLt.trans_le hK⟩ : (Routing.shape2 R C).Idx)
      = ix2 b ⟨k.val, k.isLt.trans_le hK⟩ := by
    funext a
    match a with
    | ⟨0, _⟩ => exact Fin.ext (Nat.zero_add _)
    | ⟨1, _⟩ => exact Fin.ext (Nat.zero_add _)
  refine Eq.trans ?_ (key (ix2 b ⟨k.val, k.isLt.trans_le hK⟩))
  rw [← hj]
  rfl

/-- The indices of the greatest scores: the tokens at the first 154 places of the stable sort by falling scores. -/
theorem top_at (b : Fin 32) (k : Fin 154) :
    val_main_indices (F := Ideal) x2 (ix2 b k)
      = BitVec.ofNat 32 (sortedFrom (greater fun n => x2 (ix2 b n)) ⟨k.val, by omega⟩).val := by
  have hg : (fun a a' : Fin 1024 => FloatOps.cmpfTotal (F := Ideal) (φ := .f32) .gt (x2 (ix2 b a)) (x2 (ix2 b a')) == 1#1)
      = greater fun n => x2 (ix2 b n) := by
    funext a a'
    exact gt_bit _ _
  rw [← hg]
  exact topK_at (R := 32) (C := 1024) (K := 154) (FloatOps.cmpfTotal (F := Ideal) (φ := .f32) .gt) x2 sliceFits_S32x1024_S32x154
    (by decide) b k

/-- The word at which the second index of an update is read: its token. -/
theorem start_col (b : Fin 32) (k : Fin 154) :
    val_main_v51 (F := Ideal) x2 (ix3 b k 1)
      = BitVec.ofNat 32 (sortedFrom (greater fun n => x2 (ix2 b n)) ⟨k.val, by omega⟩).val := by
  rw [← top_at]
  pointwise [val_main_v51, val_main_v50, val_main_v47, val_main_v46, val_main_v45, val_main_v44, val_main_v43,
    val_main_c_5, val_main_c_6]
  refine Routing.wrap_of_lt _ _ ?_
  rw [top_at, BitVec.toNat_ofNat, Nat.mod_eq_of_lt (by omega)]
  omega

/-- A small number read back from its word. -/
theorem word_int {r : ℕ} (h : r < 1024) : (BitVec.ofNat 32 r).toInt = (r : Int) := by
  have e : (BitVec.ofNat 32 r).toNat = r := by rw [BitVec.toNat_ofNat, Nat.mod_eq_of_lt (by omega)]
  rw [BitVec.toInt_eq_toNat_of_lt (by omega), e]

/-- The scattered ones are the mask. -/
theorem ref_mask (b : Fin 32) (n : Fin 1024) :
    val_main_v53 (F := Ideal) x2 (ix2 b n) = mask (fun n => x2 (ix2 b n)) n := by
  have lands : ∀ (a : Fin 32) (k : Fin 154),
      ScatterDims.resultIdx? scatter_S32x1024_S32x154x2_S32x154_n_01_01_2 (ix2 a k) (val_main_v51 (F := Ideal) x2) = some (ix2 b n)
        ↔ a = b ∧ sortedFrom (greater fun n => x2 (ix2 a n)) ⟨k.val, by omega⟩ = n := fun a k => by
    refine (Routing.scatter_lands2 (R := 32) (C := 1024) (A := 32) (B := 154) scatter_S32x1024_S32x154x2_S32x154_n_01_01_2
      rfl rfl rfl (val_main_v51 (F := Ideal) x2) a k b n).trans ?_
    show (BitVec.toInt (val_main_v51 (F := Ideal) x2 (ix3 a k 0)) = (b.val : Int)
      ∧ BitVec.toInt (val_main_v51 (F := Ideal) x2 (ix3 a k 1)) = (n.val : Int)) ↔ _
    rw [start_row, start_col, word_int (by omega), word_int (by omega), Fin.ext_iff, Fin.ext_iff, Int.ofNat_inj, Int.ofNat_inj]
  unfold mask val_main_v53
  by_cases h : rank (fun n => x2 (ix2 b n)) n < 154
  · rw [if_pos h]
    obtain ⟨k, hk⟩ := (among_first _ n).2 h
    refine Routing.scatter_set_hit _ _ _ _ _ _ (fun q _ => ?_) (ix2 b k) ((lands b k).2 ⟨rfl, hk⟩)
    idx_vars q
    pointwise [val_main_v52, val_main_cst_7]
  · rw [if_neg h, Routing.scatter_set_miss]
    · pointwise [val_main_v37, val_main_cst_3]
    · intro q hq
      idx_vars q
      obtain ⟨rfl, hk⟩ := (lands q0 q1).1 hq
      exact h ((among_first _ n).1 ⟨q1, hk⟩)

/-- The reference's result at batch row `b`, token `n` and channel `d`. -/
theorem ref_out (b : Fin 32) (n : Fin 1024) (d : Fin 96) :
    val_main_v59 (F := Ideal) x0 x1 x2 x3 x4 x5 x6 x7 x8 x9 x10 (ix3 b n d)
      = out (fun n d => x0 (ix3 b n d)) (fun l d => x1 (ix3 b l d)) (fun n => x2 (ix2 b n)) (fun k d => x3 (ix2 k d))
          (fun d => x4 (ix1 d)) (fun k d => x5 (ix2 k d)) (fun d => x6 (ix1 d)) (fun k d => x7 (ix2 k d))
          (fun d => x8 (ix1 d)) (fun k => x9 (ix2 k 0)) (x10 (ix1 0)) n d := by
  pointwise [val_main_v59, val_main_v58, val_main_v57, val_main_v56, val_main_v55, val_main_v54]
  rw [ref_mask, ref_refined, ref_gate _ _ _ _ _ _ _ _ _ _ _ _ _ _ _ (ref_gateIn x0 x1 x2 x3 x4 x5 x6 x7 x8 b)]
  rfl

end Cert.Refine

end
-- ==== Proof.Equation.lean ====
module

public import proofs.«01_k».proof.Defs
public import proofs.«01_k».proof.Proof.Array
public import proofs.«01_k».proof.Proof.Reference
public import proofs.«01_k».proof.Proof.Gen.ReferenceIdeal.Run
public import Idealize.ShloMosaic.Lib.Claim

/-!
# The kernel's result is the reference's

Both programs end with the computation of the specification in their result arrays.
-/

@[expose] public section

set_option maxRecDepth 16384

noncomputable section

namespace Cert.Refine

open Idealize.ShloMosaic Idealize.ShloMosaic.TcCoe Idealize.SL.Sem Idealize.ShloMosaic.Tactic

/-- The idealized kernel ends with the specified result in its result array. -/
theorem kernel_run (m : (ℓ : Loc KernelIdeal.nD KernelIdeal.τ KernelIdeal.sig) → Buf (Elt Ideal) ℓ)
    (ρ : Dev KernelIdeal.nD → PrngReg) :
    θ_run (KernelIdeal.defs (F := Ideal)) (onTc (τ := KernelIdeal.τ) (KernelIdeal.main (F := Ideal))) ⟨m, fun _ => 0, ρ⟩
      (fun r => ∀ c : Dev KernelIdeal.nD,
        r.2.mem ((c.tc : Thread KernelIdeal.nD KernelIdeal.τ).loc KernelIdeal.main_v9)
          = fun x : KernelIdeal.S32x1024x96.Idx => kernelOut m c (x 0) (x 1) (x 2)) := by
  refine θ_run_mono (KernelIdeal.Gen.run_main_quiescent m ρ) fun r h c => ?_
  refine (h.1.rest_eq c KernelIdeal.main_v9 (by decide)).trans ?_
  funext x
  idx_vars x
  exact result m c x0 x1 x2

/-- From the same arguments, the reference's result is the kernel's. -/
theorem same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)) :
    ReferenceIdeal.Value.res_main_v59 m' c = fun x : KernelIdeal.S32x1024x96.Idx => kernelOut m c (x 0) (x 1) (x 2) := by
  obtain ⟨h0, h1, h2, h3, h4, h5, h6, h7, h8, h9, h10⟩ := h
  rw [ReferenceIdeal.Read.val_main_v59_eq, h0, h1, h2, h3, h4, h5, h6, h7, h8, h9, h10]
  funext x
  idx_vars x
  exact ref_out _ _ _ _ _ _ _ _ _ _ _ x0 x1 x2

/-- THE EQUATION: from the same arguments both programs end with equal results, their arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => fun x : KernelIdeal.S32x1024x96.Idx => kernelOut m c (x 0) (x 1) (x 2), ?_, ?_⟩
  · exact θ_run_mono (θ_run_and (kernel_run m g) (KernelIdeal.Gen.frame m g)) fun r h c => ⟨h.1 c, h.2.1 c⟩
  · exact θ_run_mono (ReferenceIdeal.Value.run (F := Ideal) m' g') fun r h c =>
      ⟨(h c).1.trans (same m m' c (hagree c)), (h c).2⟩

end Cert.Refine

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- From any memory with zero counters the kernel ends, its arguments unchanged and every semaphore counter at zero. -/
theorem quiescent_kernel : Cert.quiescent_Kernel (hKernel := Cert.Kernel.Gen.facts) :=
  fun m ρ _ => Cert.Kernel.Gen.frame m ρ

/-- The same of the idealized kernel. -/
theorem quiescent_kernelIdeal : Cert.quiescent_KernelIdeal (hKernelIdeal := Cert.KernelIdeal.Gen.facts) :=
  fun m ρ _ => Cert.KernelIdeal.Gen.frame m ρ

/-- The same of the reference: its run states its arguments unchanged. -/
theorem quiescent_referenceIdeal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  quiescent_kernel, quiescent_kernelIdeal, quiescent_referenceIdeal, trivial, Cert.Refine.algebraic⟩

end Cert.Proof

end
